-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x1024 : Shape := ⟨2, ![8, 1024]⟩
abbrev S8 : Shape := ⟨1, ![8]⟩
abbrev S8x2048x1024 : Shape := ⟨3, ![8, 2048, 1024]⟩
abbrev S8x1024x2048 : Shape := ⟨3, ![8, 1024, 2048]⟩
abbrev S_ : Shape := ⟨0, ![]⟩
abbrev S1 : Shape := ⟨1, ![1]⟩
abbrev S1024x2048 : Shape := ⟨2, ![1024, 2048]⟩
abbrev S8x1 : Shape := ⟨2, ![8, 1]⟩
abbrev S1x1024x1024 : Shape := ⟨3, ![1, 1024, 1024]⟩
abbrev S8x2048 : Shape := ⟨2, ![8, 2048]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩

abbrev nBuf : Space → Nat
  | .hbm => 26
  | .vmem => 11
  | .smem => 1
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S8, .f32⟩
  | .hbm, ⟨3, _⟩ => ⟨S8x2048x1024, .f32⟩
  | .hbm, ⟨4, _⟩ => ⟨S8x2048x1024, .f32⟩
  | .hbm, ⟨5, _⟩ => ⟨S8x1024x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1024x2048, .f32⟩
  | .hbm, ⟨22, _⟩ => ⟨S1024x2048, .bf16⟩
  | .hbm, ⟨23, _⟩ => ⟨S8x1024, .bf16⟩
  | .hbm, ⟨24, _⟩ => ⟨S8x1, .f32⟩
  | .hbm, ⟨25, _⟩ => ⟨S2048x1024, .f32⟩
  | .local _ .vmem, ⟨0, _⟩ => ⟨S8x1024, .bf16⟩
  | .local _ .vmem, ⟨1, _⟩ => ⟨S8x1, .f32⟩
  | .local _ .vmem, ⟨2, _⟩ => ⟨S1024x2048, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S2048x1024, .f32⟩
  | .local _ .vmem, ⟨10, _⟩ => ⟨S8x2048, .f32⟩
  | .local _ .smem, ⟨0, _⟩ => ⟨S1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg0 : BitVec 32 := BitVec.ofNat 32 (i 0).val
  let v18 : Index := Scalar.indexCast arg0
  let c0_12 : Index := 0#32
  ![v18.toNat, 0]
def k0_off2 (i : grid0.Coords) : Fin 2 → Nat :=
  let arg0 : BitVec 32 := BitVec.ofNat 32 (i 0).val
  let v37 : Index := Scalar.indexCast arg0
  let c512_21 : Index := 512#32
  ![v37.toNat, 512]
def k0_off3 (i : grid0.Coords) : Fin 2 → Nat :=
  let arg0 : BitVec 32 := BitVec.ofNat 32 (i 0).val
  let v56 : Index := Scalar.indexCast arg0
  let c1024_30 : Index := 1024#32
  ![v56.toNat, 1024]
def k0_off4 (i : grid0.Coords) : Fin 2 → Nat :=
  let arg0 : BitVec 32 := BitVec.ofNat 32 (i 0).val
  let v75 : Index := Scalar.indexCast arg0
  let c1536_39 : Index := 1536#32
  ![v75.toNat, 1536]
def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_14 : BitVec 32 := 0#32
  let v27 : BitVec 1 := Scalar.cmpi .eq v1 c0_i32_14
  let v28 : BitVec 32 := Scalar.extui v27
  let c0_i32_15 : BitVec 32 := 0#32
  let v29 : BitVec 1 := Scalar.cmpi .ne v28 c0_i32_15
  v29

def k0_cond3 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_16 : BitVec 32 := 0#32
  let v30 : BitVec 1 := Scalar.cmpi .ne v1 c0_i32_16
  let v31 : BitVec 32 := Scalar.extui v30
  let c0_i32_17 : BitVec 32 := 0#32
  let v32 : BitVec 1 := Scalar.cmpi .ne v31 c0_i32_17
  v32

def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_23 : BitVec 32 := 0#32
  let v46 : BitVec 1 := Scalar.cmpi .eq v1 c0_i32_23
  let v47 : BitVec 32 := Scalar.extui v46
  let c0_i32_24 : BitVec 32 := 0#32
  let v48 : BitVec 1 := Scalar.cmpi .ne v47 c0_i32_24
  v48

def k0_cond5 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_25 : BitVec 32 := 0#32
  let v49 : BitVec 1 := Scalar.cmpi .ne v1 c0_i32_25
  let v50 : BitVec 32 := Scalar.extui v49
  let c0_i32_26 : BitVec 32 := 0#32
  let v51 : BitVec 1 := Scalar.cmpi .ne v50 c0_i32_26
  v51

def k0_cond6 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_32 : BitVec 32 := 0#32
  let v65 : BitVec 1 := Scalar.cmpi .eq v1 c0_i32_32
  let v66 : BitVec 32 := Scalar.extui v65
  let c0_i32_33 : BitVec 32 := 0#32
  let v67 : BitVec 1 := Scalar.cmpi .ne v66 c0_i32_33
  v67

def k0_cond7 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_34 : BitVec 32 := 0#32
  let v68 : BitVec 1 := Scalar.cmpi .ne v1 c0_i32_34
  let v69 : BitVec 32 := Scalar.extui v68
  let c0_i32_35 : BitVec 32 := 0#32
  let v70 : BitVec 1 := Scalar.cmpi .ne v69 c0_i32_35
  v70

def k0_cond8 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_41 : BitVec 32 := 0#32
  let v84 : BitVec 1 := Scalar.cmpi .eq v1 c0_i32_41
  let v85 : BitVec 32 := Scalar.extui v84
  let c0_i32_42 : BitVec 32 := 0#32
  let v86 : BitVec 1 := Scalar.cmpi .ne v85 c0_i32_42
  v86

def k0_cond9 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_43 : BitVec 32 := 0#32
  let v87 : BitVec 1 := Scalar.cmpi .ne v1 c0_i32_43
  let v88 : BitVec 32 := Scalar.extui v87
  let c0_i32_44 : BitVec 32 := 0#32
  let v89 : BitVec 1 := Scalar.cmpi .ne v88 c0_i32_44
  v89

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2048x1024 : Shape := ⟨2, ![2048, 1024]⟩
abbrev S8x1024 : Shape := ⟨2, ![8, 1024]⟩
abbrev S8 : Shape := ⟨1, ![8]⟩
abbrev S8x2048x1024 : Shape := ⟨3, ![8, 2048, 1024]⟩
abbrev S8x1024x2048 : Shape := ⟨3, ![8, 1024, 2048]⟩
abbrev S_ : Shape := ⟨0, ![]⟩
abbrev S1024x8 : Shape := ⟨2, ![1024, 8]⟩
abbrev S2048x8 : Shape := ⟨2, ![2048, 8]⟩
abbrev S1x8 : Shape := ⟨2, ![1, 8]⟩
abbrev S2048x8x2048 : Shape := ⟨3, ![2048, 8, 2048]⟩
abbrev S2048x8x1024 : Shape := ⟨3, ![2048, 8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S8, .f32⟩
  | .hbm, ⟨3, _⟩ => ⟨S8x2048x1024, .f32⟩
  | .hbm, ⟨4, _⟩ => ⟨S8x2048x1024, .f32⟩
  | .hbm, ⟨5, _⟩ => ⟨S8x1024x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1024x8, .f32⟩
  | .hbm, ⟨21, _⟩ => ⟨S2048x8, .f32⟩
  | .hbm, ⟨22, _⟩ => ⟨S1x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S2048x8, .i1⟩
  | .hbm, ⟨35, _⟩ => ⟨S2048x8, .f32⟩
  | .hbm, ⟨36, _⟩ => ⟨S2048x8x2048, .f32⟩
  | .hbm, ⟨37, _⟩ => ⟨S2048x8x2048, .f32⟩
  | .hbm, ⟨38, _⟩ => ⟨S2048x8x2048, .f32⟩
  | .hbm, ⟨39, _⟩ => ⟨S2048x8x2048, .f32⟩
  | .hbm, ⟨40, _⟩ => ⟨S_, .f32⟩
  | .hbm, ⟨41, _⟩ => ⟨S2048x8x2048, .f32⟩
  | .hbm, ⟨42, _⟩ => ⟨S2048x8x2048, .f32⟩
  | .hbm, ⟨43, _⟩ => ⟨S_, .f32⟩
  | .hbm, ⟨44, _⟩ => ⟨S2048x8x2048, .f32⟩
  | .hbm, ⟨45, _⟩ => ⟨S2048x8x2048, .f32⟩
  | .hbm, ⟨46, _⟩ => ⟨S2048x8x2048, .f32⟩
  | .hbm, ⟨47, _⟩ => ⟨S2048x8x2048, .f32⟩
  | .hbm, ⟨48, _⟩ => ⟨S8x1024x2048, .f32⟩
  | .hbm, ⟨49, _⟩ => ⟨S2048x8x1024, .f32⟩
  | .hbm, ⟨50, _⟩ => ⟨S2048x8, .f32⟩
  | .hbm, ⟨51, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pointwise

@[expose] public section

set_option maxRecDepth 16384

noncomputable section

namespace Cert.KernelIdeal.Moe

open Cert.KernelIdeal Cert.KernelIdeal.Gen Idealize.ShloMosaic Idealize.ShloMosaic.TcCoe Idealize.SL.Sem

/-- One tile of 512 tokens through one half of one expert, as the body writes it four times over. -/
abbrev tile (up gate down : FVec Ideal S1024x1024 .bf16) (x : FVec Ideal S1024x512 .bf16) (r : FVec Ideal S1x512 .f32) :
    FVec Ideal S512x1024 .f32 :=
  k0_pay2 (F := Ideal) up gate down x r

/-- A tile read at token `a` and feature `b`: the sum over the 1024 hidden units of the half expert. -/
theorem tile_at (up gate down : FVec Ideal S1024x1024 .bf16) (x : FVec Ideal S1024x512 .bf16) (r : FVec Ideal S1x512 .f32)
    (a : Fin 512) (b : Fin 1024) :
    tile up gate down x r (ix2 a b)
      = ∑ k : Fin 1024, (∑ d : Fin 1024, up (ix2 k d) * x (ix2 d a))
          * ((∑ d : Fin 1024, gate (ix2 k d) * x (ix2 d a)) * Ideal.logistic (∑ d : Fin 1024, gate (ix2 k d) * x (ix2 d a)))
          * r (ix2 0 a) * down (ix2 b k) := by
  pointwise [tile, k0_pay2]
  done

/-- The router's entry for expert `e` and token `i`: the confidence where it beats the threshold, else zero. -/
theorem router_at (w : FVec Ideal S8x1024 .bf16) (x : FVec Ideal S1024x2048 .bf16) (b : FVec Ideal S8x1 .f32) (tau : EReal)
    (e : Fin 8) (i : Fin 2048) :
    k0_pay4 (F := Ideal) w x b tau (ix2 e i)
      = if tau < (∑ d : Fin 1024, w (ix2 e d) * x (ix2 d i)) + b (ix2 e 0)
        then Ideal.logistic ((∑ d : Fin 1024, w (ix2 e d) * x (ix2 d i)) + b (ix2 e 0)) else 0 := by
  pointwise [k0_pay4]
  done

/-- What one half expert adds to the output at token `i` and feature `d`, over the blocks a point stages: the
    transposed tokens `x`, the two input weights, the output weight, and the router's table `s` read at row `e`. -/
def part (x : FVec Ideal S1024x2048 .bf16) (up gate down : FVec Ideal S1x1024x1024 .f32) (s : FVec Ideal S8x2048 .f32)
    (e : Fin 8) (i : Fin 2048) (d : Fin 1024) : EReal :=
  ∑ k : Fin 1024, (∑ p : Fin 1024, up (ix3 0 k p) * x (ix2 p i))
    * ((∑ p : Fin 1024, gate (ix3 0 k p) * x (ix2 p i)) * Ideal.logistic (∑ p : Fin 1024, gate (ix3 0 k p) * x (ix2 p i)))
    * s (ix2 e i) * down (ix3 0 d k)

/-- A tile whose tokens are columns of `x` and whose weights are row `e` of `s` holds `part` at each of its places `y`,
    where `i` and `d` are the token and the feature that place stands for. -/
theorem tile_eq_part (x : FVec Ideal S1024x2048 .bf16) (up gate down : FVec Ideal S1x1024x1024 .f32)
    (s : FVec Ideal S8x2048 .f32) (e : Fin 8) (i : Fin 2048) (d : Fin 1024) (y : S512x1024.Idx)
    (v : FVec Ideal S1024x512 .bf16) (r : FVec Ideal S1x512 .f32) (hd : (d : ℕ) = y 1)
    (hv : ∀ p : Fin 1024, v (ix2 p (y 0)) = x (ix2 p i)) (hr : r (ix2 0 (y 0)) = s (ix2 e i)) :
    tile (k0_pay5 up) (k0_pay6 gate) (k0_pay7 down) v r y = part x up gate down s e i d := by
  obtain rfl : d = y 1 := Fin.ext hd
  rw [eq_ix2 y]
  refine (tile_at _ _ _ _ _ _ _).trans ?_
  unfold part
  simp only [hv, hr]
  pointwise [k0_pay5, k0_pay6, k0_pay7]
  done

/-- The same tile added to what the output held there before. -/
theorem add_tile_eq (x : FVec Ideal S1024x2048 .bf16) (up gate down : FVec Ideal S1x1024x1024 .f32)
    (s : FVec Ideal S8x2048 .f32) (e : Fin 8) (i : Fin 2048) (d : Fin 1024) (y : S512x1024.Idx)
    (v : FVec Ideal S1024x512 .bf16) (r : FVec Ideal S1x512 .f32) (w : FVec Ideal S512x1024 .f32) (o : EReal)
    (hw : w y = o) (hd : (d : ℕ) = y 1)
    (hv : ∀ p : Fin 1024, v (ix2 p (y 0)) = x (ix2 p i)) (hr : r (ix2 0 (y 0)) = s (ix2 e i)) :
    k0_pay3 (F := Ideal) (k0_pay5 up) (k0_pay6 gate) (k0_pay7 down) v r w y = o + part x up gate down s e i d := by
  have h := tile_eq_part x up gate down s e i d y v r hd hv hr
  rw [← hw, ← h]
  pointwise [k0_pay3]
  done

end Cert.KernelIdeal.Moe
-- ==== Proof.Step.lean ====
module

public import proofs.«01_k».proof.Proof.Tile
public import proofs.«01_k».proof.Proof.Gen.KernelIdeal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The expert point `t` works for. -/
def expert (t : Fin cfg0.N) : Fin 8 := ⟨t.val / 2, by have h : t.val < 16 := lt_of_lt_of_eq t.isLt N_0; omega⟩

/-- The four row reads of the router's table start at the point's expert, one per tile of 512 tokens. -/
theorem row_offsets : ∀ t : Fin cfg0.N,
    k0_off1 (grid0.coords t) = ![t.val / 2, 0] ∧ k0_off2 (grid0.coords t) = ![t.val / 2, 512]
      ∧ k0_off3 (grid0.coords t) = ![t.val / 2, 1024] ∧ k0_off4 (grid0.coords t) = ![t.val / 2, 1536] :=
  (by decide +kernel : ∀ t : Fin grid0.N, _)

/-- What point `t` adds to the output at token `i` and feature `d`, over a router's table `s`. -/
def contrib (c : Dev nD) (t : Fin cfg0.N) (s : FVec Ideal S8x2048 .f32) (i : Fin 2048) (d : Fin 1024) : EReal :=
  part (iblk m c 3 t) (iblk m c 4 t) (iblk m c 5 t) (iblk m c 6 t) s (expert t) i d

/-- A point after the first adds its contribution, over the table it finds, to what the point before left. -/
theorem later_out (c : Dev nD) (t : Fin cfg0.N) (ht : ¬ t.val % 16 = 0) (acc : Vec Ideal S2048x1024 .f32 × Vec Ideal S8x2048 .f32)
    (i : Fin 2048) (d : Fin 1024) :
    (stAt0 m c t.val t.isLt acc).1 (ix2 i d) = (show FVec Ideal S2048x1024 .f32 from acc.1) (ix2 i d) + contrib m c t acc.2 i d := by
  have hp : 1 ≤ t.val := by omega
  rw [stAt0_B m c t acc ht ht hp ht hp ht hp ht hp]
  frame_out
  simp only [read_unread_whole]
  have e := row_offsets t
  canon_tiles x h
  all_goals
    replace h0 : (i : ℕ) = _ := h0
    replace h1 : (d : ℕ) = _ := h1
    refine add_tile_eq (iblk m c 3 t) (iblk m c 4 t) (iblk m c 5 t) (iblk m c 6 t) acc.2 (expert t) i d x _ _ _ _ ?_ h1 (fun p => ?_) ?_ <;>
    pointwise [e.1, e.2.1, e.2.2.1, e.2.2.2, expert] <;> blk_ext

/-- A point after the first leaves the router's table as it found it. -/
theorem later_table (c : Dev nD) (t : Fin cfg0.N) (ht : ¬ t.val % 16 = 0) (acc : Vec Ideal S2048x1024 .f32 × Vec Ideal S8x2048 .f32) :
    (stAt0 m c t.val t.isLt acc).2 = acc.2 := by
  have hp : 1 ≤ t.val := by omega
  rw [stAt0_B m c t acc ht ht hp ht hp ht hp ht hp]
  rfl

/-- The router's table as the first point computes it from its staged blocks. -/
def table (c : Dev nD) (t : Fin cfg0.N) : FVec Ideal S8x2048 .f32 :=
  k0_pay4 (F := Ideal) (iblk m c 1 t) (iblk m c 3 t) (iblk m c 2 t) (iblk m c 0 t (ix1 0))

/-- A point whose number is a multiple of sixteen is the first one. -/
theorem not_later {t : Fin cfg0.N} (ht : t.val % 16 = 0) : ¬ 1 ≤ t.val := by
  have h : t.val < 16 := lt_of_lt_of_eq t.isLt N_0
  omega

/-- The first point stores the router's table. -/
theorem first_table (c : Dev nD) (t : Fin cfg0.N) (ht : t.val % 16 = 0) (acc : Vec Ideal S2048x1024 .f32 × Vec Ideal S8x2048 .f32) :
    (stAt0 m c t.val t.isLt acc).2 = table m c t := by
  have hp := not_later ht
  rw [stAt0_A m c t acc ht ht hp ht hp ht hp ht hp]
  frame_out
  unfold table
  refine congrArg (k0_pay4 (F := Ideal) (iblk m c 1 t) (iblk m c 3 t) (iblk m c 2 t)) ?_
  pointwise
  blk_ext

/-- The first point stores its contribution over the table it has just written. -/
theorem first_out (c : Dev nD) (t : Fin cfg0.N) (ht : t.val % 16 = 0) (acc : Vec Ideal S2048x1024 .f32 × Vec Ideal S8x2048 .f32)
    (i : Fin 2048) (d : Fin 1024) :
    (stAt0 m c t.val t.isLt acc).1 (ix2 i d) = contrib m c t (table m c t) i d := by
  have hp := not_later ht
  have hs := first_table m c t ht acc
  rw [stAt0_A m c t acc ht ht hp ht hp ht hp ht hp] at hs ⊢
  frame_out
  frame_out at hs
  rw [hs]
  have e := row_offsets t
  canon_tiles x h
  all_goals
    replace h0 : (i : ℕ) = _ := h0
    replace h1 : (d : ℕ) = _ := h1
    refine tile_eq_part (iblk m c 3 t) (iblk m c 4 t) (iblk m c 5 t) (iblk m c 6 t) (table m c t) (expert t) i d x _ _ h1 (fun p => ?_) ?_ <;>
    pointwise [e.1, e.2.1, e.2.2.1, e.2.2.2, expert] <;> blk_ext

end Cert.KernelIdeal.Moe
-- ==== Proof.Fold.lean ====
module

public import proofs.«01_k».proof.Proof.Step

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The grid's first point. -/
def first : Fin cfg0.N := ⟨0, lt_of_lt_of_eq (by decide) N_0.symm⟩

/-- After `n` further points the carried table is still the first point's, and the output holds the contributions of
    all the points so far, each over that table. -/
theorem state_after (c : Dev nD) : ∀ (n : ℕ) (h : 0 + n < cfg0.N),
    (Pipeline.accAt (fun n h => stAt0 m c n h junk0) (stAt0 m c) 0 n h).2 = table m c first
      ∧ ∀ (i : Fin 2048) (d : Fin 1024),
        (show FVec Ideal S2048x1024 .f32 from (Pipeline.accAt (fun n h => stAt0 m c n h junk0) (stAt0 m c) 0 n h).1) (ix2 i d)
          = ∑ p : Fin (n + 1), contrib m c ⟨p.val, by have := p.isLt; omega⟩ (table m c first) i d
  | 0, h => by
    rw [Pipeline.accAt_zero]
    refine ⟨first_table m c first rfl junk0, fun i d => ?_⟩
    rw [Fin.sum_univ_one]
    exact first_out m c first rfl junk0 i d
  | n + 1, h => by
    obtain ⟨ih2, ih1⟩ := state_after c n (Nat.lt_of_succ_lt h)
    have hN : 0 + (n + 1) < 16 := lt_of_lt_of_eq h N_0
    have ht : ¬ (0 + (n + 1)) % 16 = 0 := by omega
    rw [Pipeline.accAt_succ]
    refine ⟨(later_table m c ⟨0 + (n + 1), h⟩ ht _).trans ih2, fun i d => ?_⟩
    refine (later_out m c ⟨0 + (n + 1), h⟩ ht _ i d).trans ?_
    rw [ih2, ih1]
    refine Eq.trans ?_ (Fin.sum_univ_castSucc _).symm
    have hp : (⟨0 + (n + 1), h⟩ : Fin cfg0.N) = ⟨n + 1, by omega⟩ := Fin.ext (Nat.zero_add _)
    rw [hp]
    rfl

/-- The result array: the contributions of all sixteen points, each over the first point's table. -/
theorem result_at (c : Dev nD) (i : Fin 2048) (d : Fin 1024) :
    (show FVec Ideal S2048x1024 .f32 from G7 m c) (ix2 i d)
      = ∑ p : Fin 16, contrib m c ⟨p.val, lt_of_lt_of_eq p.isLt N_0.symm⟩ (table m c first) i d := by
  rw [G7_last]
  exact (state_after m c 15 _).2 i d

end Cert.KernelIdeal.Moe
-- ==== Proof.Mixture.lean ====
module

public import proofs.«01_k».proof.Proof.Gen.KernelIdeal.Skeleton
public import Idealize.ShloMosaic.Lib.Pointwise

@[expose] public section

set_option maxRecDepth 16384

noncomputable section

namespace Cert.KernelIdeal.Moe

open Cert.KernelIdeal Idealize.ShloMosaic Idealize.ShloMosaic.TcCoe Idealize.SL.Sem

/-! The mixture of experts as a formula over the argument arrays: tokens `X`, probe `P` with bias `B`, input weights
    `U` and `G`, output weights `D`, and the three scalars of the threshold. -/

/-- The logistic function takes no negative value. -/
theorem logistic_nonneg (x : EReal) : 0 ≤ Ideal.logistic x := by
  induction x using EReal.rec with
  | bot => simp
  | coe r => rw [Ideal.logistic_coe]; exact_mod_cast (by positivity : (0 : ℝ) ≤ (1 + Real.exp (-r))⁻¹)
  | top => simp

/-- The logistic function is finite, even at the infinities. -/
theorem logistic_ne_top (x : EReal) : Ideal.logistic x ≠ ⊤ := by
  induction x using EReal.rec with
  | bot => simp
  | coe r => rw [Ideal.logistic_coe]; exact EReal.coe_ne_top _
  | top => rw [Ideal.logistic_top]; exact EReal.coe_ne_top 1

/-- A factor that is neither negative nor infinite goes inside a finite sum of extended reals. -/
theorem sum_mul_of_finite {n : ℕ} (f : Fin n → EReal) (c : EReal) (h0 : 0 ≤ c) (ht : c ≠ ⊤) :
    (∑ k, f k) * c = ∑ k, f k * c := by
  induction n with
  | zero => simp
  | succ n ih =>
    rw [Fin.sum_univ_succ, Fin.sum_univ_succ, EReal.right_distrib_of_nonneg_of_ne_top h0 ht, ih]

variable (X : FVec Ideal S2048x1024 .f32) (P : FVec Ideal S8x1024 .f32) (B : FVec Ideal S8 .f32)
  (U G : FVec Ideal S8x2048x1024 .f32) (D : FVec Ideal S8x1024x2048 .f32) (tb ga wd : FVec Ideal S_ .f32)

/-- The depth term of the threshold, halved. -/
def depth : EReal := wd ix0 * Ideal.ofBits .f32 0x3F000000#32

/-- The activation threshold. -/
def threshold : EReal := tb ix0 + ga ix0 * (depth wd * Ideal.logistic (depth wd))

/-- The router's logit of token `i` for expert `e`. -/
def logit (i : Fin 2048) (e : Fin 8) : EReal := (∑ p : Fin 1024, X (ix2 i p) * P (ix2 e p)) + B (ix1 e)

/-- The weight of expert `e` for token `i`: its confidence if the logit beats the threshold, else zero. -/
def weight (i : Fin 2048) (e : Fin 8) : EReal :=
  if threshold tb ga wd < logit X P B i e then Ideal.logistic (logit X P B i e) else 0

/-- A token's product with one row of an expert's input weights. -/
def proj (W : FVec Ideal S8x2048x1024 .f32) (i : Fin 2048) (e : Fin 8) (f : Fin 2048) : EReal :=
  ∑ p : Fin 1024, X (ix2 i p) * W (ix3 e f p)

/-- The gated hidden unit `f` of expert `e` for token `i`. -/
def hidden (i : Fin 2048) (e : Fin 8) (f : Fin 2048) : EReal :=
  proj X U i e f * (proj X G i e f * Ideal.logistic (proj X G i e f))

/-- The output at token `i` and feature `d`: every expert's output, weighted, summed over the experts. -/
def moe (i : Fin 2048) (d : Fin 1024) : EReal :=
  ∑ e : Fin 8, (∑ f : Fin 2048, D (ix3 e d f) * hidden X U G i e f) * weight X P B tb ga wd i e

/-- No weight is negative. -/
theorem weight_nonneg (i : Fin 2048) (e : Fin 8) : 0 ≤ weight X P B tb ga wd i e := by
  unfold weight
  split
  · exact logistic_nonneg _
  · exact le_refl _

/-- No weight is infinite. -/
theorem weight_ne_top (i : Fin 2048) (e : Fin 8) : weight X P B tb ga wd i e ≠ ⊤ := by
  unfold weight
  split
  · exact logistic_ne_top _
  · exact EReal.coe_ne_top 0

/-- The same output with the weight applied to each hidden unit, before the output product. -/
theorem moe_eq_sum_weighted (i : Fin 2048) (d : Fin 1024) :
    moe X P B U G D tb ga wd i d
      = ∑ e : Fin 8, ∑ f : Fin 2048, hidden X U G i e f * weight X P B tb ga wd i e * D (ix3 e d f) := by
  unfold moe
  refine Finset.sum_congr rfl fun e _ => ?_
  rw [sum_mul_of_finite _ _ (weight_nonneg X P B tb ga wd i e) (weight_ne_top X P B tb ga wd i e)]
  refine Finset.sum_congr rfl fun f _ => ?_
  rw [mul_assoc, mul_comm]

/-- A comparison's bit read as a number, times a value, is the value where the comparison holds and zero elsewhere. -/
theorem mask_mul (p : Prop) [Decidable p] (v : EReal) :
    FloatOps.uitofp (F := Ideal) .f32 (BitVec.ofBool (decide p)) * v = if p then v else 0 := by
  show (((BitVec.ofBool (decide p)).toNat : ℝ) : EReal) * v = _
  by_cases h : p
  · simp [h]
  · simp [h]

end Cert.KernelIdeal.Moe
-- ==== Proof.Inputs.lean ====
module

public import proofs.«01_k».proof.Proof.Step
public import proofs.«01_k».proof.Proof.Mixture

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- Which block each input window stages at point `t`: the router's inputs always whole, the weights of expert
    `t / 2`, half `t % 2`. -/
theorem block_index : ∀ t : Fin cfg0.N,
    win0_0.index t = ![0] ∧ win0_1.index t = ![0, 0] ∧ win0_2.index t = ![0, 0] ∧ win0_3.index t = ![0, 0]
      ∧ win0_4.index t = ![t.val / 2, t.val % 2, 0] ∧ win0_5.index t = ![t.val / 2, t.val % 2, 0]
      ∧ win0_6.index t = ![t.val / 2, 0, t.val % 2] :=
  (by decide +kernel : ∀ t : Fin grid0.N, _)

/-- The staged tokens are the argument's, transposed. -/
theorem tokens_at (c : Dev nD) (t : Fin cfg0.N) (p : Fin 1024) (i : Fin 2048) :
    (show FVec Ideal S1024x2048 .bf16 from iblk m c 3 t) (ix2 p i)
      = (show FVec Ideal S2048x1024 .f32 from m ((c : Thread nD τ).loc main_arg0)) (ix2 i p) := by
  blk_simp [iblk, block_index t]
  entry_read
  pointwise
  blk_ext [block_index t]

/-- Hidden unit `k` of the staged first input weight is unit `f = (t % 2) · 1024 + k` of the point's expert. -/
theorem up_at (c : Dev nD) (t : Fin cfg0.N) (k p : Fin 1024) (f : Fin 2048) (hf : (f : ℕ) = t.val % 2 * 1024 + k) :
    (show FVec Ideal S1x1024x1024 .f32 from iblk m c 4 t) (ix3 0 k p)
      = (show FVec Ideal S8x2048x1024 .f32 from m ((c : Thread nD τ).loc main_arg3)) (ix3 (expert t) f p) := by
  blk_ext [iblk, V, block_index t, expert]

/-- The same for the second input weight. -/
theorem gate_at (c : Dev nD) (t : Fin cfg0.N) (k p : Fin 1024) (f : Fin 2048) (hf : (f : ℕ) = t.val % 2 * 1024 + k) :
    (show FVec Ideal S1x1024x1024 .f32 from iblk m c 5 t) (ix3 0 k p)
      = (show FVec Ideal S8x2048x1024 .f32 from m ((c : Thread nD τ).loc main_arg4)) (ix3 (expert t) f p) := by
  blk_ext [iblk, V, block_index t, expert]

/-- The same for the output weight, whose hidden units are its last axis. -/
theorem down_at (c : Dev nD) (t : Fin cfg0.N) (d k : Fin 1024) (f : Fin 2048) (hf : (f : ℕ) = t.val % 2 * 1024 + k) :
    (show FVec Ideal S1x1024x1024 .f32 from iblk m c 6 t) (ix3 0 d k)
      = (show FVec Ideal S8x1024x2048 .f32 from m ((c : Thread nD τ).loc main_arg5)) (ix3 (expert t) d f) := by
  blk_ext [iblk, V, block_index t, expert]

/-- The staged probe is the argument's. -/
theorem probe_at (c : Dev nD) (t : Fin cfg0.N) (e : Fin 8) (p : Fin 1024) :
    (show FVec Ideal S8x1024 .bf16 from iblk m c 1 t) (ix2 e p)
      = (show FVec Ideal S8x1024 .f32 from m ((c : Thread nD τ).loc main_arg1)) (ix2 e p) := by
  blk_simp [iblk, block_index t]
  entry_read
  pointwise
  blk_ext [block_index t]

/-- The staged bias is the argument's, as a column. -/
theorem bias_at (c : Dev nD) (t : Fin cfg0.N) (e : Fin 8) :
    (show FVec Ideal S8x1 .f32 from iblk m c 2 t) (ix2 e 0)
      = (show FVec Ideal S8 .f32 from m ((c : Thread nD τ).loc main_arg2)) (ix1 e) := by
  blk_simp [iblk, block_index t]
  entry_read
  pointwise
  blk_ext [block_index t]

/-- The staged scalar is the activation threshold of the three scalar arguments. -/
theorem threshold_at (c : Dev nD) (t : Fin cfg0.N) :
    (show FVec Ideal S1 .f32 from iblk m c 0 t) (ix1 0)
      = threshold (m ((c : Thread nD τ).loc main_arg6)) (m ((c : Thread nD τ).loc main_arg7)) (m ((c : Thread nD τ).loc main_arg8)) := by
  blk_simp [iblk, block_index t]
  entry_read
  pointwise [threshold, depth, Ideal.logistic]

end Cert.KernelIdeal.Moe
-- ==== Proof.Equation.lean ====
module

public import proofs.«01_k».proof.Proof.Fold
public import proofs.«01_k».proof.Proof.Inputs

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The table a point computes holds each expert's weight for each token. -/
theorem table_at (c : Dev nD) (t : Fin cfg0.N) (e : Fin 8) (i : Fin 2048) :
    table m c t (ix2 e i)
      = weight (m ((c : Thread nD τ).loc main_arg0)) (m ((c : Thread nD τ).loc main_arg1)) (m ((c : Thread nD τ).loc main_arg2))
          (m ((c : Thread nD τ).loc main_arg6)) (m ((c : Thread nD τ).loc main_arg7)) (m ((c : Thread nD τ).loc main_arg8)) i e := by
  have hl : (∑ p : Fin 1024, (show FVec Ideal S8x1024 .bf16 from iblk m c 1 t) (ix2 e p)
        * (show FVec Ideal S1024x2048 .bf16 from iblk m c 3 t) (ix2 p i))
        + (show FVec Ideal S8x1 .f32 from iblk m c 2 t) (ix2 e 0)
      = logit (m ((c : Thread nD τ).loc main_arg0)) (m ((c : Thread nD τ).loc main_arg1)) (m ((c : Thread nD τ).loc main_arg2)) i e := by
    unfold logit
    refine congrArg₂ (fun a b : EReal => a + b) (Finset.sum_congr rfl fun p _ => ?_) (bias_at m c t e)
    exact (congrArg₂ (fun a b : EReal => a * b) (probe_at m c t e p) (tokens_at m c t p i)).trans (mul_comm _ _)
  unfold table weight
  refine (router_at _ _ _ _ e i).trans ?_
  rw [← hl, ← threshold_at m c t]

/-- What a point adds is its half expert's hidden units, weighted, through the output weights. -/
theorem contrib_at (c : Dev nD) (t : Fin cfg0.N) (i : Fin 2048) (d : Fin 1024) (f : Fin 1024 → Fin 2048)
    (hf : ∀ k, (f k : ℕ) = t.val % 2 * 1024 + k) :
    contrib m c t (table m c first) i d
      = ∑ k : Fin 1024, hidden (m ((c : Thread nD τ).loc main_arg0)) (m ((c : Thread nD τ).loc main_arg3))
            (m ((c : Thread nD τ).loc main_arg4)) i (expert t) (f k)
          * weight (m ((c : Thread nD τ).loc main_arg0)) (m ((c : Thread nD τ).loc main_arg1)) (m ((c : Thread nD τ).loc main_arg2))
              (m ((c : Thread nD τ).loc main_arg6)) (m ((c : Thread nD τ).loc main_arg7)) (m ((c : Thread nD τ).loc main_arg8)) i (expert t)
          * (show FVec Ideal S8x1024x2048 .f32 from m ((c : Thread nD τ).loc main_arg5)) (ix3 (expert t) d (f k)) := by
  unfold contrib part
  refine Finset.sum_congr rfl fun k _ => ?_
  have hu : (∑ p : Fin 1024, (show FVec Ideal S1x1024x1024 .f32 from iblk m c 4 t) (ix3 0 k p)
        * (show FVec Ideal S1024x2048 .bf16 from iblk m c 3 t) (ix2 p i))
      = proj (m ((c : Thread nD τ).loc main_arg0)) (m ((c : Thread nD τ).loc main_arg3)) i (expert t) (f k) :=
    Finset.sum_congr rfl fun p _ =>
      (congrArg₂ (fun a b : EReal => a * b) (up_at m c t k p (f k) (hf k)) (tokens_at m c t p i)).trans (mul_comm _ _)
  have hg : (∑ p : Fin 1024, (show FVec Ideal S1x1024x1024 .f32 from iblk m c 5 t) (ix3 0 k p)
        * (show FVec Ideal S1024x2048 .bf16 from iblk m c 3 t) (ix2 p i))
      = proj (m ((c : Thread nD τ).loc main_arg0)) (m ((c : Thread nD τ).loc main_arg4)) i (expert t) (f k) :=
    Finset.sum_congr rfl fun p _ =>
      (congrArg₂ (fun a b : EReal => a * b) (gate_at m c t k p (f k) (hf k)) (tokens_at m c t p i)).trans (mul_comm _ _)
  refine congrArg₂ (fun a b : EReal => a * b) (congrArg₂ (fun a b : EReal => a * b) ?_ (table_at m c first (expert t) i))
    (down_at m c t d k (f k) (hf k))
  unfold hidden
  rw [← hu, ← hg]

/-- The result array at token `i` and feature `d` is the mixture of experts over the argument arrays. -/
theorem result_eq_moe (c : Dev nD) (i : Fin 2048) (d : Fin 1024) :
    (show FVec Ideal S2048x1024 .f32 from G7 m c) (ix2 i d)
      = moe (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) i d := by
  rw [result_at, moe_eq_sum_weighted]
  have h := fun t : Fin 16 => contrib_at m c ⟨t.val, lt_of_lt_of_eq t.isLt N_0.symm⟩ i d
    (fun k => ⟨t.val % 2 * 1024 + k, by have := k.isLt; omega⟩) fun k => rfl
  refine (Finset.sum_congr rfl fun t _ => h t).trans ?_
  clear h
  refine Fin.sum_points_lanes_congr 2 fun t k ha hl => ?_
  rfl

end Cert.KernelIdeal.Moe
-- ==== Proof.lean ====
/- The certificate's claims, assembled: the frames from the generated runs, and the value claim from the kernel's result
   array read as a formula (Proof/Equation.lean) set beside the reference's own term. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent
public import Idealize.ShloMosaic.Lib.Pointwise

@[expose] public section

noncomputable section

namespace Cert.Proof

open Idealize.ShloMosaic Idealize.SL.Sem

/-- The reference runs, keeps its arguments, and leaves no semaphore counting. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from the same arguments, the kernel and the reference end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext j
  rw [eq_ix2 j]
  refine Eq.trans ?_ (Cert.KernelIdeal.Moe.result_eq_moe m c (j 0) (j 1)).symm
  pointwise
  simp only [Cert.KernelIdeal.Moe.mask_mul]
  rfl

/-- All the claims of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
